-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S8192x1024 : Shape := ⟨2, ![8192, 1024]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x8192x1024, .f32⟩
  | .local _ .vmem, ⟨0, _⟩ => ⟨S4x512x1024, .f32⟩
  | .local _ .vmem, ⟨1, _⟩ => ⟨S4x512x1024, .f32⟩
  | .local _ .vmem, ⟨2, _⟩ => ⟨S512x1024, .f32⟩
  | .local _ .vmem, ⟨3, _⟩ => ⟨S512x1024, .f32⟩
  | .local _ .vmem, ⟨4, _⟩ => ⟨S4x512x1024, .f32⟩
  | .local _ .vmem, ⟨5, _⟩ => ⟨S4x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S4x8192x1024, .f32⟩
  | .hbm, ⟨28, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Embedding.KernelValue.lean ====
/-
  What the blocked kernel computes: after its run the result array holds, at `(b, r, d)`, the sum of the input at
  `(b, r, d)` and the embedding table at `(r, d)`. Stated at any float values; the certificate reads it at the extended
  reals.
-/
module

public import proofs.«01_k».proof.Proof.Gen.KernelIdeal.Value
public import Idealize.ShloMosaic.Lib.ValueIdxCore

@[expose] public section

noncomputable section

namespace Cert.KernelIdeal.Embedding

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The table's index under an index of the batch: the row and the feature, without the sequence. -/
abbrev under (i : S4x8192x1024.Idx) : S8192x1024.Idx := ix2 (n0 := 8192) (n1 := 1024) (i 1) (i 2)

/-- The batch `x` with row `r` of the table `pe` added to row `r` of every sequence. -/
def embedded (x : Vec F S4x8192x1024 .f32) (pe : Vec F S8192x1024 .f32) : Vec F S4x8192x1024 .f32 :=
  fun i => FloatOps.addf (x i) (pe (under i))

/-- `embedded` of device `c`'s two arguments. -/
abbrev target (c : Dev nD) : Buf (Elt F) ((c : Thread nD τ).loc main_v0) :=
  embedded (m ((c : Thread nD τ).loc main_arg0)) (m ((c : Thread nD τ).loc main_arg1))

/-- The block numbers at grid point `t`: the three windows take block `t` along the rows and the whole of every other
    axis. -/
theorem block_numbers : ∀ t : Fin grid0.N,
    (win0_0.index t 0 = 0 ∧ win0_0.index t 1 = t.val ∧ win0_0.index t 2 = 0)
    ∧ (win0_1.index t 0 = t.val ∧ win0_1.index t 1 = 0)
    ∧ (win0_2.index t 0 = 0 ∧ win0_2.index t 1 = t.val ∧ win0_2.index t 2 = 0) := by decide +kernel

/-- One block: the body's result of an input block `X` and a table block `E` is at `y` the sum of `X` there and of
    `E` at `y`'s row and feature. -/
theorem body_apply (X : Vec F S4x512x1024 .f32) (E : Vec F S512x1024 .f32) (y : S4x512x1024.Idx) :
    out0_2 X E y = FloatOps.addf (X y) (E (ix2 (n0 := 512) (n1 := 1024) (y 1) (y 2))) := by
  have h3 : (![0, 0, 0] : Fin 3 → Nat) = fun _ => 0 := by funext a; fin_cases a <;> rfl
  have h2 : (![0, 0] : Fin 2 → Nat) = fun _ => 0 := by funext a; fin_cases a <;> rfl
  unfold out0_2
  rw [Value.canon2_eq, View.ld_unit_zero h3, View.ld_unit_zero h2]
  have e0 : Value.ix2_0 y = y := by funext a; fin_cases a <;> rfl
  have e1 : Value.ix2_1 y = ix2 (n0 := 512) (n1 := 1024) (y 1) (y 2) := by funext a; fin_cases a <;> rfl
  show FloatOps.addf (X (Value.ix2_0 y)) (E (Value.ix2_1 y)) = _
  rw [e0, e1]

/-- What point `t` writes back is block `t` of `target`. -/
theorem flushed_eq (c : Dev nD) (t : Fin cfg0.N) :
    (dats m 0 c).flushed 2 t = ((cfg0.win 2).blk t).view.read (Elt F) (target m c) := by
  obtain ⟨⟨a0, a1, a2⟩, ⟨b0, b1⟩, ⟨c0, c1, c2⟩⟩ := block_numbers t
  rw [Value.flushed2]
  funext y
  show out0_2 (iblk m c 0 t) (iblk m c 1 t) y = target m c ((win0_2.blk t).view.emb y)
  rw [body_apply]
  have e0 : (win0_0.blk t).view.emb y = (win0_2.blk t).view.emb y := by
    funext a
    refine Fin.ext ?_
    show win0_0.index t a * S4x512x1024.size a + 1 * (y a).val = win0_2.index t a * S4x512x1024.size a + 1 * (y a).val
    have : win0_0.index t a = win0_2.index t a := by
      match a with
      | ⟨0, _⟩ => exact a0.trans c0.symm
      | ⟨1, _⟩ => exact a1.trans c1.symm
      | ⟨2, _⟩ => exact a2.trans c2.symm
    rw [this]
  have e1 : (win0_1.blk t).view.emb (ix2 (n0 := 512) (n1 := 1024) (y 1) (y 2)) = under ((win0_2.blk t).view.emb y) := by
    funext a
    refine Fin.ext ?_
    match a with
    | ⟨0, _⟩ =>
      show win0_1.index t 0 * 512 + 1 * (y 1).val = win0_2.index t 1 * 512 + 1 * (y 1).val
      rw [b0, c1]
    | ⟨1, _⟩ =>
      show win0_1.index t 1 * 1024 + 1 * (y 2).val = win0_2.index t 2 * 1024 + 1 * (y 2).val
      rw [b1, c2]
  show FloatOps.addf (m ((c : Thread nD τ).loc main_arg0) ((win0_0.blk t).view.emb y))
      (m ((c : Thread nD τ).loc main_arg1) ((win0_1.blk t).view.emb (ix2 (n0 := 512) (n1 := 1024) (y 1) (y 2))))
    = FloatOps.addf (m ((c : Thread nD τ).loc main_arg0) ((win0_2.blk t).view.emb y))
      (m ((c : Thread nD τ).loc main_arg1) (under ((win0_2.blk t).view.emb y)))
  rw [e0, e1]

/-- Every index of the result lies in the block of the point that its row, divided by 512, names. -/
theorem covered (i : S4x8192x1024.Idx) :
    ∃ t : Fin cfg0.N, (cfg0.win 2).flush t = true ∧ i ∈ ((cfg0.win 2).blk t).view.set := by
  have h0 : (i 0).val < 4 := (i 0).isLt
  have h1 : (i 1).val < 8192 := (i 1).isLt
  have h2 : (i 2).val < 1024 := (i 2).isLt
  have ht : (i 1).val / 512 < cfg0.N := by rw [show cfg0.N = 16 from N_0]; omega
  refine ⟨⟨(i 1).val / 512, ht⟩, flush0_2 _, ?_⟩
  obtain ⟨_, _, c0, c1, c2⟩ := block_numbers ⟨(i 1).val / 512, ht⟩
  show i ∈ ((View.whole main_v0).slice (win0_2.rect ⟨(i 1).val / 512, ht⟩)).set
  rw [View.set_slice_whole, Rect.mem_set_unit]
  intro a
  match a with
  | ⟨0, _⟩ =>
    show win0_2.index ⟨(i 1).val / 512, ht⟩ 0 * 4 ≤ (i 0).val
      ∧ (i 0).val < win0_2.index ⟨(i 1).val / 512, ht⟩ 0 * 4 + 4
    rw [c0]; omega
  | ⟨1, _⟩ =>
    show win0_2.index ⟨(i 1).val / 512, ht⟩ 1 * 512 ≤ (i 1).val
      ∧ (i 1).val < win0_2.index ⟨(i 1).val / 512, ht⟩ 1 * 512 + 512
    rw [c1]; dsimp only; omega
  | ⟨2, _⟩ =>
    show win0_2.index ⟨(i 1).val / 512, ht⟩ 2 * 1024 ≤ (i 2).val
      ∧ (i 2).val < win0_2.index ⟨(i 1).val / 512, ht⟩ 2 * 1024 + 1024
    rw [c2]; omega

/-- So the result array ends at `target`. -/
theorem final_eq (c : Dev nD) : (dats m 0 c).arrAt 2 cfg0.N = target m c :=
  (dats m 0 c).arrAt_eq_of_cover 2 (target m c) (fun t _ => flushed_eq m c t) covered

/-- The kernel's run: the result at `target`, the arguments as they were. -/
theorem run : θ_run defs (onTc (τ := τ) (main (F := F))) ⟨m, fun _ => 0, ρ⟩ fun r => ∀ c : Dev nD,
      r.2.mem ((c : Thread nD τ).loc main_v0) = target m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.KernelIdeal.Embedding

end
-- ==== Proof.Embedding.ReferenceValue.lean ====
/-
  What the reference computes: the lookup of the positions `0, 1, …, 8191` in a table of 8192 rows is the table itself,
  so the result is the input plus the table's row at every position. The lookup wraps a negative position, gathers with
  the position clamped into the table, and puts a fill value where the position is outside; every position here is
  inside, so neither the wrap nor the fill is ever taken.
-/
module

public import proofs.«01_k».proof.Proof.Gen.ReferenceIdeal.Run
public import Idealize.ShloMosaic.Lib.Routing.Ops
public import Idealize.ShloMosaic.Lib.ReduceAll
public import Idealize.ShloMosaic.Lib.Affine
public import Idealize.ShloMosaic.Lib.WordArith
public import Idealize.ShloMosaic.Lib.ValueIdxCore

@[expose] public section

noncomputable section

namespace Cert.ReferenceIdeal.Embedding

open Cert.ReferenceIdeal Cert.ReferenceIdeal.Gen Idealize.ShloMosaic Idealize.ShloMosaic.TcCoe Idealize.SL.Sem
open Idealize.ShloMosaic.ValueIdx

variable {F : FTy → Type} [FloatOps F]

/-- The position at `r`, wrapped if negative: as the reference prints it. -/
abbrev positions : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32))) (iotaInDim S8192 32 0)

/-- The positions as a column: the lookup's start indices. -/
abbrev starts : IVec S8192x1 32 := broadcastInDim S8192x1 ![0] bcast_S8192_S8192x1_0 positions

/-- Which positions lie in the table. -/
abbrev inside : IVec S8192 1 :=
  Host.reduce IntOp.andi (andi (cmpi .sge starts (broadcastInDim S8192x1 ![] bcast_S_S8192x1 (constantI S_ 32 0#32)))
      (cmpi .sle starts (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- The rows that the lookup returns. -/
abbrev looked (pe : Vec F S8192x1024 .f32) : Vec F S8192x1024 .f32 :=
  select (broadcastInDim S8192x1024 ![0] bcast_S8192_S8192x1024_0 inside)
    (Host.gather gather_S8192x1024_S8192x1_S8192x1024_1_0_n_n_0_1_11024 pe starts)
    (broadcastInDim S8192x1024 ![] bcast_S_S8192x1024 (constant S_ .f32 0x7FC00000#32))

/-- The position at `r` is `r`: it is not negative, so it is not wrapped. -/
theorem positions_apply (i : S8192.Idx) : positions i = BitVec.ofNat 32 (i 0).val := by
  have hi : (i 0).val < 8192 := (i 0).isLt
  have hneg : ¬ IntOp.cmpi .slt (BitVec.ofNat 32 (i 0).val) 0#32 = 1#1 := by
    rw [IntOp.cmpi_slt, BitVec.toInt_ofNat', show (0#32 : BitVec 32).toInt = 0 from rfl, Int.bmod_def]
    omega
  show Scalar.select (IntOp.cmpi .slt (BitVec.ofNat 32 (i 0).val) 0#32) _ (BitVec.ofNat 32 (i 0).val) = _
  rw [eq_zero_of_ne_one hneg, select_zero]

/-- The start index at row `r` is `r`. -/
theorem starts_apply (j : S8192x1.Idx) : starts j = BitVec.ofNat 32 (j 0).val := by
  refine (broadcastInDim_apply _ _ _ j (ix1 (n := 8192) (j 0)) fun a => ?_).trans (positions_apply _)
  match a with
  | ⟨0, _⟩ => exact (if_neg (show ¬(8192 : Nat) = 1 by decide)).symm

/-- Every position lies in the table. -/
theorem inside_apply (i : S8192.Idx) : inside i = 1#1 := by
  refine Host.reduce_andi_one _ _ _ _ i rfl fun j => ?_
  have hj : (j 0).val < 8192 := (j 0).isLt
  show IntOp.andi (IntOp.cmpi .sge (starts j) 0#32) (IntOp.cmpi .sle (starts j) 8191#32) = 1#1
  have hv : (starts j).toInt = (j 0).val := by
    rw [starts_apply, BitVec.toInt_ofNat', Int.bmod_def]; omega
  have h1 : IntOp.cmpi .sge (starts j) 0#32 = 1#1 := by
    rw [IntOp.cmpi_sge, hv, show (0#32 : BitVec 32).toInt = 0 from rfl]; omega
  have h2 : IntOp.cmpi .sle (starts j) 8191#32 = 1#1 := by
    rw [IntOp.cmpi_sle, hv, show (8191#32 : BitVec 32).toInt = 8191 from rfl]; omega
  rw [h1, h2]; rfl

/-- The lookup of all positions is the table. -/
theorem looked_eq (pe : Vec F S8192x1024 .f32) : looked pe = pe := by
  funext j
  obtain ⟨r, d, rfl⟩ : ∃ (r : Fin 8192) (d : Fin 1024), j = ix2 r d := ⟨j 0, j 1, eq_ix2 j⟩
  have hin : broadcastInDim S8192x1024 ![0] bcast_S8192_S8192x1024_0 inside (ix2 r d) = 1#1 := inside_apply _
  show Scalar.select _ _ _ = _
  rw [hin, select_one]
  exact Routing.gather_row gather_S8192x1024_S8192x1_S8192x1024_1_0_n_n_0_1_11024 rfl rfl rfl rfl rfl pe starts r d r
    (starts_apply _) (by decide)

/-- The table, copied into every sequence, at an index: its entry at the index's row and feature. -/
theorem copied_apply (pe : Vec F S8192x1024 .f32) (i : S4x8192x1024.Idx) :
    broadcastInDim S4x8192x1024 ![0, 1, 2] bcast_S1x8192x1024_S4x8192x1024_0_1_2
      (broadcastInDim S1x8192x1024 ![1, 2] bcast_S8192x1024_S1x8192x1024_1_2 pe) i
    = pe (ix2 (n0 := 8192) (n1 := 1024) (i 1) (i 2)) := by
  refine (broadcastInDim_apply _ _ _ i (ix3 (n0 := 1) (n1 := 8192) (n2 := 1024) 0 (i 1) (i 2)) fun a => ?_).trans
    (broadcastInDim_apply _ _ _ _ _ fun a => ?_)
  · match a with
    | ⟨0, _⟩ => exact (if_pos rfl).symm
    | ⟨1, _⟩ => exact (if_neg (show ¬(8192 : Nat) = 1 by decide)).symm
    | ⟨2, _⟩ => exact (if_neg (show ¬(1024 : Nat) = 1 by decide)).symm
  · match a with
    | ⟨0, _⟩ => exact (if_neg (show ¬(8192 : Nat) = 1 by decide)).symm
    | ⟨1, _⟩ => exact (if_neg (show ¬(1024 : Nat) = 1 by decide)).symm

/-- The reference's run: the result at `(b, r, d)` is the input there plus the table at `(r, d)`; the arguments as they
    were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = (fun i : S4x8192x1024.Idx =>
        FloatOps.addf (F := F) (m ((c.tc : Thread nD τ).loc main_arg0) i)
          (m ((c.tc : Thread nD τ).loc main_arg1) (ix2 (n0 := 8192) (n1 := 1024) (i 1) (i 2))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext i
  show FloatOps.addf _ (broadcastInDim S4x8192x1024 ![0, 1, 2] bcast_S1x8192x1024_S4x8192x1024_0_1_2
    (broadcastInDim S1x8192x1024 ![1, 2] bcast_S8192x1024_S1x8192x1024_1_2
      (looked (m ((c.tc : Thread nD τ).loc main_arg1)))) i) = _
  rw [looked_eq, copied_apply]

end Cert.ReferenceIdeal.Embedding

end
-- ==== Proof.lean ====
/-
  The certificate: the frames of the three programs, the idealization, and the value claim that the blocked kernel and
  the lookup-and-add reference are one function over the extended reals. The values are
  `Proof/Embedding/KernelValue.lean` and `Proof/Embedding/ReferenceValue.lean`; this file assembles.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Embedding.KernelValue
public import proofs.«01_k».proof.Proof.Embedding.ReferenceValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments, and has no semaphore to leave raised. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Embedding.run (F := Ideal) m ρ)

/-- The kernel and the reference compute one function: both results are the input plus the table's row at each
    position. -/
theorem value : Cert.algebraic_KernelIdeal_ReferenceIdeal := by
  intro m ρ m' ρ' _ hagree
  refine ⟨fun c => Cert.KernelIdeal.Embedding.target m c, Cert.KernelIdeal.Embedding.run (F := Ideal) m ρ, ?_⟩
  refine (θ_run Cert.ReferenceIdeal.defs _ _).mono (fun _ h c => ⟨(h c).1.trans ?_, (h c).2⟩)
    (Cert.ReferenceIdeal.Embedding.run (F := Ideal) m' ρ')
  rw [(hagree c).1, (hagree c).2]
  rfl

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, value⟩

end Cert.Proof

end
